-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1024x32 : Shape := ⟨2, ![1024, 32]⟩
abbrev S64x64x32 : Shape := ⟨3, ![64, 64, 32]⟩
abbrev S_ : Shape := ⟨0, ![]⟩

class Facts : Prop where
  bcast_S_S1024x32 : S_.BroadcastsInDim S1024x32 (![] : Fin 0 → Fin S1024x32.rank)
  reducesTo_S1024x32_S_d0_1 : S1024x32.ReducesTo [0, 1] S_
  h_S_ : 0 < S_.numel
  bcast_S_S64x64x32 : S_.BroadcastsInDim S64x64x32 (![] : Fin 0 → Fin S64x64x32.rank)
  reducesTo_S64x64x32_S_d0_1_2 : S64x64x32.ReducesTo [0, 1, 2] S_

variable [Facts]

def fn {F : FTy → Type} [FloatOps F] (main_arg0 : FVec F S1024x32 .f32) (main_arg1 : FVec F S64x64x32 .f32) : IVec S_ 1 :=
  let main_v0 : FVec F S1024x32 .f32 := Host.absf main_arg0
  let main_cst : FVec F S_ .f32 := constant S_ .f32 0x7F800000#32
  let main_v1 : FVec F S1024x32 .f32 := broadcastInDim S1024x32 ![] bcast_S_S1024x32 main_cst
  let main_v2 : IVec S1024x32 1 := cmpf .olt main_v0 main_v1
  let main_c : IVec S_ 1 := constantI S_ 1 1#1
  let main_v3 : IVec S_ 1 := (fun x v => Host.reduce IntOp.andi x v reducesTo_S1024x32_S_d0_1 h_S_) main_v2 main_c
  let main_v4 : FVec F S64x64x32 .f32 := Host.absf main_arg1
  let main_cst_0 : FVec F S_ .f32 := constant S_ .f32 0x7F800000#32
  let main_v5 : FVec F S64x64x32 .f32 := broadcastInDim S64x64x32 ![] bcast_S_S64x64x32 main_cst_0
  let main_v6 : IVec S64x64x32 1 := cmpf .olt main_v4 main_v5
  let main_c_1 : IVec S_ 1 := constantI S_ 1 1#1
  let main_v7 : IVec S_ 1 := (fun x v => Host.reduce IntOp.andi x v reducesTo_S64x64x32_S_d0_1_2 h_S_) main_v6 main_c_1
  let main_v8 : IVec S_ 1 := andi main_v3 main_v7
  main_v8
-- ==== Kernel.lean ====
abbrev S1024x32 : Shape := ⟨2, ![1024, 32]⟩
abbrev S64x64x32 : Shape := ⟨3, ![64, 64, 32]⟩
abbrev S4096x32 : Shape := ⟨2, ![4096, 32]⟩
abbrev S32x4096 : Shape := ⟨2, ![32, 4096]⟩
abbrev S1024x2 : Shape := ⟨2, ![1024, 2]⟩
abbrev S4096 : Shape := ⟨1, ![4096]⟩
abbrev S1x4096 : Shape := ⟨2, ![1, 4096]⟩
abbrev S1024x1 : Shape := ⟨2, ![1024, 1]⟩
abbrev S1024x33 : Shape := ⟨2, ![1024, 33]⟩
abbrev S33x4096 : Shape := ⟨2, ![33, 4096]⟩
abbrev S1024x4096 : Shape := ⟨2, ![1024, 4096]⟩
abbrev S1024x128 : Shape := ⟨2, ![1024, 128]⟩
abbrev S1024 : Shape := ⟨1, ![1024]⟩

abbrev nBuf : Space → Nat
  | .hbm => 5
  | .vmem => 3
  | .smem => 0
  | _ => 0

abbrev bufTy : (tb : Table) → Fin (tcTables nBuf tb) → BufTy
  | .hbm, ⟨0, _⟩ => ⟨S1024x32, .f32⟩
  | .hbm, ⟨1, _⟩ => ⟨S64x64x32, .f32⟩
  | .hbm, ⟨2, _⟩ => ⟨S4096x32, .f32⟩
  | .hbm, ⟨3, _⟩ => ⟨S32x4096, .f32⟩
  | .hbm, ⟨4, _⟩ => ⟨S1024x2, .i32⟩
  | .local _ .vmem, ⟨0, _⟩ => ⟨S1024x32, .f32⟩
  | .local _ .vmem, ⟨1, _⟩ => ⟨S32x4096, .f32⟩
  | .local _ .vmem, ⟨2, _⟩ => ⟨S1024x2, .i32⟩
  | _, _ => ⟨S1024x32, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== ReferenceIdeal.lean ====
abbrev S1024x32 : Shape := ⟨2, ![1024, 32]⟩
abbrev S64x64x32 : Shape := ⟨3, ![64, 64, 32]⟩
abbrev S4096x32 : Shape := ⟨2, ![4096, 32]⟩
abbrev S1024x1x32 : Shape := ⟨3, ![1024, 1, 32]⟩
abbrev S1x4096x32 : Shape := ⟨3, ![1, 4096, 32]⟩
abbrev S1024x4096x32 : Shape := ⟨3, ![1024, 4096, 32]⟩
abbrev S_ : Shape := ⟨0, ![]⟩
abbrev S1024x4096 : Shape := ⟨2, ![1024, 4096]⟩
abbrev S1024 : Shape := ⟨1, ![1024]⟩
abbrev S1024x1 : Shape := ⟨2, ![1024, 1]⟩
abbrev S1024x2 : Shape := ⟨2, ![1024, 2]⟩

abbrev nBuf : Space → Nat
  | .hbm => 63
  | .vmem => 0
  | .smem => 0
  | _ => 0

abbrev bufTy : (tb : Table) → Fin (tcTables nBuf tb) → BufTy
  | .hbm, ⟨0, _⟩ => ⟨S1024x32, .f32⟩
  | .hbm, ⟨1, _⟩ => ⟨S64x64x32, .f32⟩
  | .hbm, ⟨2, _⟩ => ⟨S4096x32, .f32⟩
  | .hbm, ⟨3, _⟩ => ⟨S1024x1x32, .f32⟩
  | .hbm, ⟨4, _⟩ => ⟨S1x4096x32, .f32⟩
  | .hbm, ⟨5, _⟩ => ⟨S1024x4096x32, .f32⟩
  | .hbm, ⟨6, _⟩ => ⟨S1024x4096x32, .f32⟩
  | .hbm, ⟨7, _⟩ => ⟨S1024x4096x32, .f32⟩
  | .hbm, ⟨8, _⟩ => ⟨S1024x4096x32, .f32⟩
  | .hbm, ⟨9, _⟩ => ⟨S1024x4096x32, .f32⟩
  | .hbm, ⟨10, _⟩ => ⟨S_, .f32⟩
  | .hbm, ⟨11, _⟩ => ⟨S1024x4096, .f32⟩
  | .hbm, ⟨12, _⟩ => ⟨S_, .f32⟩
  | .hbm, ⟨13, _⟩ => ⟨S1024x4096, .f32⟩
  | .hbm, ⟨14, _⟩ => ⟨S1024x4096, .f32⟩
  | .hbm, ⟨15, _⟩ => ⟨S1024x4096, .i32⟩
  | .hbm, ⟨16, _⟩ => ⟨S_, .f32⟩
  | .hbm, ⟨17, _⟩ => ⟨S_, .i32⟩
  | .hbm, ⟨18, _⟩ => ⟨S1024, .f32⟩
  | .hbm, ⟨19, _⟩ => ⟨S1024, .i32⟩
  | .hbm, ⟨20, _⟩ => ⟨S_, .i32⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S_, .i32⟩
  | .hbm, ⟨26, _⟩ => ⟨S1024, .i32⟩
  | .hbm, ⟨27, _⟩ => ⟨S1024, .i1⟩
  | .hbm, ⟨28, _⟩ => ⟨S1024, .i32⟩
  | .hbm, ⟨29, _⟩ => ⟨S1024, .i32⟩
  | .hbm, ⟨30, _⟩ => ⟨S_, .i32⟩
  | .hbm, ⟨31, _⟩ => ⟨S1024, .i32⟩
  | .hbm, ⟨32, _⟩ => ⟨S1024, .i1⟩
  | .hbm, ⟨33, _⟩ => ⟨S1024, .i1⟩
  | .hbm, ⟨34, _⟩ => ⟨S_, .i32⟩
  | .hbm, ⟨35, _⟩ => ⟨S1024, .i32⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S1024, .i32⟩
  | .hbm, ⟨45, _⟩ => ⟨S1024, .i32⟩
  | .hbm, ⟨46, _⟩ => ⟨S_, .i32⟩
  | .hbm, ⟨47, _⟩ => ⟨S1024, .i32⟩
  | .hbm, ⟨48, _⟩ => ⟨S1024, .i1⟩
  | .hbm, ⟨49, _⟩ => ⟨S_, .i32⟩
  | .hbm, ⟨50, _⟩ => ⟨S1024, .i32⟩
  | .hbm, ⟨51, _⟩ => ⟨S1024, .i1⟩
  | .hbm, ⟨52, _⟩ => ⟨S_, .i32⟩
  | .hbm, ⟨53, _⟩ => ⟨S_, .i1⟩
  | .hbm, ⟨54, _⟩ => ⟨S1024, .i1⟩
  | .hbm, ⟨55, _⟩ => ⟨S1024, .i1⟩
  | .hbm, ⟨56, _⟩ => ⟨S1024, .i1⟩
  | .hbm, ⟨57, _⟩ => ⟨S1024, .i32⟩
  | .hbm, ⟨58, _⟩ => ⟨S1024, .i32⟩
  | .hbm, ⟨59, _⟩ => ⟨S1024, .i32⟩
  | .hbm, ⟨60, _⟩ => ⟨S1024x1, .i32⟩
  | .hbm, ⟨61, _⟩ => ⟨S1024x1, .i32⟩
  | .hbm, ⟨62, _⟩ => ⟨S1024x2, .i32⟩
  | _, _ => ⟨S1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_call0_v0 : Ref sig .tc := ⟨.hbm, 15, rfl⟩
abbrev main_call0_cst : Ref sig .tc := ⟨.hbm, 16, rfl⟩
abbrev main_call0_c : Ref sig .tc := ⟨.hbm, 17, rfl⟩
abbrev main_call0_v1_0 : Ref sig .tc := ⟨.hbm, 18, rfl⟩
abbrev main_v11 : Ref sig .tc := ⟨.hbm, 19, rfl⟩
abbrev main_c : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_c : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_0 : Ref sig .tc := ⟨.hbm, 34, rfl⟩
abbrev main_call1_v12 : Ref sig .tc := ⟨.hbm, 35, rfl⟩
abbrev main_call1_v13 : Ref sig .tc := ⟨.hbm, 36, rfl⟩
abbrev main_v12 : Ref sig .tc := ⟨.hbm, 37, rfl⟩
abbrev main_c_1 : Ref sig .tc := ⟨.hbm, 38, rfl⟩
abbrev main_call2_v0 : Ref sig .tc := ⟨.hbm, 39, rfl⟩
abbrev main_call2_c : Ref sig .tc := ⟨.hbm, 40, rfl⟩
abbrev main_call2_v1 : Ref sig .tc := ⟨.hbm, 41, rfl⟩
abbrev main_call2_c_0 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_c_1 : Ref sig .tc := ⟨.hbm, 46, rfl⟩
abbrev main_call2_v5 : Ref sig .tc := ⟨.hbm, 47, rfl⟩
abbrev main_call2_v6 : Ref sig .tc := ⟨.hbm, 48, rfl⟩
abbrev main_call2_c_2 : Ref sig .tc := ⟨.hbm, 49, rfl⟩
abbrev main_call2_v7 : Ref sig .tc := ⟨.hbm, 50, rfl⟩
abbrev main_call2_v8 : Ref sig .tc := ⟨.hbm, 51, rfl⟩
abbrev main_call2_c_3 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_v12 : Ref sig .tc := ⟨.hbm, 56, rfl⟩
abbrev main_call2_v13 : Ref sig .tc := ⟨.hbm, 57, rfl⟩
abbrev main_call2_v14 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩

abbrev nD : Nat := 1
abbrev τ : Topo := Topo.v7x

variable {F : FTy → Type} [FloatOps F]
-- ==== Proof.ReferenceRun.lean ====
/-
  The run of the reference program over any float values: @main is a straight line of StableHLO operations (its three
  function calls included), so every buffer ends at the operations' results folded over the launch contents. The result
  array is stated as the composition `refOut` of four functions: the distances, the arg-min of each row, and the quotient
  and remainder by 64 of its index, side by side.
-/
module

public import Idealize.ShloMosaic.Lib.StableHlo.Run
public import Idealize.ShloMosaic.Lib.StableHlo.RunRead
public import Idealize.ShloMosaic.Lib.Quiescent
public import proofs.«01_k».proof.Proof.Gen.ReferenceIdeal

@[expose] public section

set_option maxRecDepth 16384

noncomputable section

namespace Cert.Bmu.Reference

open Cert.ReferenceIdeal Cert.ReferenceIdeal.Gen
open Idealize.ShloMosaic Idealize.ShloMosaic.TcCoe Idealize.ShloMosaic.StableHlo Idealize.SL.Sem

variable {F : FTy → Type} [FloatOps F]

/-! ## The functions the program composes -/

/-- The distance of every sample row to every code row: the power one half of the sum of the squared absolute
    differences. -/
def refDist (x : FVec F S1024x32 .f32) (w : FVec F S64x64x32 .f32) : FVec F S1024x4096 .f32 :=
  let d := Host.absf (subf
    (broadcastInDim S1024x4096x32 ![0, 1, 2] bcast_S1024x1x32_S1024x4096x32_0_1_2
      (broadcastInDim S1024x1x32 ![0, 2] bcast_S1024x32_S1024x1x32_0_2 x))
    (broadcastInDim S1024x4096x32 ![0, 1, 2] bcast_S1x4096x32_S1024x4096x32_0_1_2
      (broadcastInDim S1x4096x32 ![1, 2] bcast_S4096x32_S1x4096x32_1_2
        (shapeCast S4096x32 w shapeCasts_S64x64x32_S4096x32))))
  Host.powf
    (Host.reduceAdd (mulf d d) (constant S_ .f32 0x00000000#32) reducesTo_S1024x4096x32_S1024x4096_d2 h_S_)
    (broadcastInDim S1024x4096 ![] bcast_S_S1024x4096 (constant S_ .f32 0x3F000000#32))

/-- The index of each row's least entry, by the program's reduction over (value, index) pairs. -/
def refArg (d : FVec F S1024x4096 .f32) : IVec S1024 32 := fun j =>
  (Host.argReduce reducer_argmin_f32_i32 d (iotaInDim S1024x4096 32 1) (constant S_ .f32 0x7F800000#32)
    (constantI S_ 32 0#32) reducesTo_S1024x4096_S1024_d1 h_S_ j).2

/-- The quotient by 64 rounded down, as the program spells it. -/
def refDiv (n : IVec S1024 32) : IVec S1024 32 :=
  let c : IVec S_ 32 := constantI S_ 32 64#32
  let q := Host.divsi n (broadcastInDim S1024 ![] bcast_S_S1024 c)
  select
    (andi (cmpi .ne (signi n) (broadcastInDim S1024 ![] bcast_S_S1024 (signi c)))
      (cmpi .ne (Host.remsi n (broadcastInDim S1024 ![] bcast_S_S1024 c))
        (broadcastInDim S1024 ![] bcast_S_S1024 (constantI S_ 32 0#32))))
    (subi q (broadcastInDim S1024 ![] bcast_S_S1024 (constantI S_ 32 1#32))) q

/-- The remainder by 64 of the divisor's sign, as the program spells it. -/
def refRem (n : IVec S1024 32) : IVec S1024 32 :=
  let c : IVec S_ 32 := constantI S_ 32 64#32
  let z : IVec S_ 32 := constantI S_ 32 0#32
  let k : IVec S_ 32 := select (cmpi .eq c z) (constantI S_ 32 1#32) c
  let r := Host.remsi n (broadcastInDim S1024 ![] bcast_S_S1024 k)
  select
    (andi
      (cmpi .ne (cmpi .slt r (broadcastInDim S1024 ![] bcast_S_S1024 z))
        (broadcastInDim S1024 ![] bcast_S_S1024 (cmpi .slt k z)))
      (cmpi .ne r (broadcastInDim S1024 ![] bcast_S_S1024 z)))
    (addi r (broadcastInDim S1024 ![] bcast_S_S1024 k)) r

/-- Two columns side by side. -/
def refPair (a b : IVec S1024 32) : IVec S1024x2 32 :=
  concatenate S1024x2 1
    [⟨S1024x1, broadcastInDim S1024x1 ![0] bcast_S1024_S1024x1_0 a⟩,
      ⟨S1024x1, broadcastInDim S1024x1 ![0] bcast_S1024_S1024x1_0 b⟩]
    concatenates_S1024x1_S1024x1_S1024x2_d1

/-- What the reference returns of its two arguments. -/
def refOut (x : FVec F S1024x32 .f32) (w : FVec F S64x64x32 .f32) : IVec S1024x2 32 :=
  refPair (refDiv (refArg (refDist x w))) (refRem (refArg (refDist x w)))

/-! ## The line of operations -/

/-- The operations that compute the distances. -/
abbrev distOps : List (HloOp τ sig (Elt F)) :=
  [ reshape main_arg1 main_v0 (rfl : (.f32 : EltTy) = .f32) shapeCasts_S64x64x32_S4096x32,
    unary main_arg0 main_v1 (broadcastInDim S1024x1x32 ![0, 2] bcast_S1024x32_S1024x1x32_0_2),
    unary main_v0 main_v2 (broadcastInDim S1x4096x32 ![1, 2] bcast_S4096x32_S1x4096x32_1_2),
    unary main_v1 main_v3 (broadcastInDim S1024x4096x32 ![0, 1, 2] bcast_S1024x1x32_S1024x4096x32_0_1_2),
    unary main_v2 main_v4 (broadcastInDim S1024x4096x32 ![0, 1, 2] bcast_S1x4096x32_S1024x4096x32_0_1_2),
    binary main_v3 main_v4 main_v5 (subf),
    unary main_v5 main_v6 (Host.absf),
    binary main_v6 main_v6 main_v7 (mulf),
    nullary main_cst (constant S_ .f32 0x00000000#32),
    binary main_v7 main_cst main_v8 ((fun x v => Host.reduceAdd x v reducesTo_S1024x4096x32_S1024x4096_d2 h_S_)),
    nullary main_cst_0 (constant S_ .f32 0x3F000000#32),
    unary main_cst_0 main_v9 (broadcastInDim S1024x4096 ![] bcast_S_S1024x4096),
    binary main_v8 main_v9 main_v10 (Host.powf) ]

/-- The operations of the arg-min call. -/
abbrev argOps : List (HloOp τ sig (Elt F)) :=
  [ nullary main_call0_v0 (iotaInDim S1024x4096 32 1),
    nullary main_call0_cst (constant S_ .f32 0x7F800000#32),
    nullary main_call0_c (constantI S_ 32 0#32),
    quaternary main_v10 main_call0_v0 main_call0_cst main_call0_c main_call0_v1_0 (fun x y u v j => (Host.argReduce reducer_argmin_f32_i32 x y u v reducesTo_S1024x4096_S1024_d1 h_S_ j).1),
    quaternary main_v10 main_call0_v0 main_call0_cst main_call0_c main_v11 (fun x y u v j => (Host.argReduce reducer_argmin_f32_i32 x y u v reducesTo_S1024x4096_S1024_d1 h_S_ j).2) ]

/-- The operations of the floor division by 64. -/
abbrev divOps : List (HloOp τ sig (Elt F)) :=
  [ nullary main_c (constantI S_ 32 64#32),
    unary main_c main_call1_v0 id,
    unary main_call1_v0 main_call1_v1 (broadcastInDim S1024 ![] bcast_S_S1024),
    binary main_v11 main_call1_v1 main_call1_v2 Host.divsi,
    unary main_v11 main_call1_v3 signi,
    unary main_call1_v0 main_call1_v4 signi,
    unary main_call1_v4 main_call1_v5 (broadcastInDim S1024 ![] bcast_S_S1024),
    binary main_call1_v3 main_call1_v5 main_call1_v6 (cmpi .ne),
    unary main_call1_v0 main_call1_v7 (broadcastInDim S1024 ![] bcast_S_S1024),
    binary main_v11 main_call1_v7 main_call1_v8 Host.remsi,
    nullary main_call1_c (constantI S_ 32 0#32),
    unary main_call1_c main_call1_v9 (broadcastInDim S1024 ![] bcast_S_S1024),
    binary main_call1_v8 main_call1_v9 main_call1_v10 (cmpi .ne),
    binary main_call1_v6 main_call1_v10 main_call1_v11 andi,
    nullary main_call1_c_0 (constantI S_ 32 1#32),
    unary main_call1_c_0 main_call1_v12 (broadcastInDim S1024 ![] bcast_S_S1024),
    binary main_call1_v2 main_call1_v12 main_call1_v13 subi,
    ternary main_call1_v11 main_call1_v13 main_call1_v2 main_v12 select ]

/-- The operations of the remainder by 64. -/
abbrev remOps : List (HloOp τ sig (Elt F)) :=
  [ nullary main_c_1 (constantI S_ 32 64#32),
    unary main_c_1 main_call2_v0 id,
    nullary main_call2_c (constantI S_ 32 0#32),
    binary main_call2_v0 main_call2_c main_call2_v1 (cmpi .eq),
    nullary main_call2_c_0 (constantI S_ 32 1#32),
    ternary main_call2_v1 main_call2_c_0 main_call2_v0 main_call2_v2 select,
    unary main_call2_v2 main_call2_v3 (broadcastInDim S1024 ![] bcast_S_S1024),
    binary main_v11 main_call2_v3 main_call2_v4 Host.remsi,
    nullary main_call2_c_1 (constantI S_ 32 0#32),
    unary main_call2_c_1 main_call2_v5 (broadcastInDim S1024 ![] bcast_S_S1024),
    binary main_call2_v4 main_call2_v5 main_call2_v6 (cmpi .ne),
    nullary main_call2_c_2 (constantI S_ 32 0#32),
    unary main_call2_c_2 main_call2_v7 (broadcastInDim S1024 ![] bcast_S_S1024),
    binary main_call2_v4 main_call2_v7 main_call2_v8 (cmpi .slt),
    nullary main_call2_c_3 (constantI S_ 32 0#32),
    binary main_call2_v2 main_call2_c_3 main_call2_v9 (cmpi .slt),
    unary main_call2_v9 main_call2_v10 (broadcastInDim S1024 ![] bcast_S_S1024),
    binary main_call2_v8 main_call2_v10 main_call2_v11 (cmpi .ne),
    binary main_call2_v11 main_call2_v6 main_call2_v12 andi,
    unary main_call2_v2 main_call2_v13 (broadcastInDim S1024 ![] bcast_S_S1024),
    binary main_call2_v4 main_call2_v13 main_call2_v14 addi,
    ternary main_call2_v12 main_call2_v14 main_call2_v4 main_v13 select ]

/-- The operations that lay the two columns side by side. -/
abbrev outOps : List (HloOp τ sig (Elt F)) :=
  [ unary main_v12 main_v14 (broadcastInDim S1024x1 ![0] bcast_S1024_S1024x1_0),
    unary main_v13 main_v15 (broadcastInDim S1024x1 ![0] bcast_S1024_S1024x1_0),
    binary main_v14 main_v15 main_v16 ((fun a b => concatenate S1024x2 1 [⟨S1024x1, a⟩, ⟨S1024x1, b⟩] concatenates_S1024x1_S1024x1_S1024x2_d1)) ]

/-- These operations touch TensorCore references only. -/
theorem distOps_sub : (distOps : List (HloOp τ sig (Elt F))).Forall fun op => op.bufs ⊆ tcRefs τ sig :=
  ⟨reshape_bufs_sub .., unary_bufs_sub .., unary_bufs_sub .., unary_bufs_sub .., unary_bufs_sub .., binary_bufs_sub .., unary_bufs_sub .., binary_bufs_sub .., nullary_bufs_sub .., binary_bufs_sub .., nullary_bufs_sub .., unary_bufs_sub .., binary_bufs_sub ..⟩

/-- These operations touch TensorCore references only. -/
theorem argOps_sub : (argOps : List (HloOp τ sig (Elt F))).Forall fun op => op.bufs ⊆ tcRefs τ sig :=
  ⟨nullary_bufs_sub .., nullary_bufs_sub .., nullary_bufs_sub .., quaternary_bufs_sub .., quaternary_bufs_sub ..⟩

/-- These operations touch TensorCore references only. -/
theorem divOps_sub : (divOps : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

/-- These operations touch TensorCore references only. -/
theorem remOps_sub : (remOps : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

/-- These operations touch TensorCore references only. -/
theorem outOps_sub : (outOps : List (HloOp τ sig (Elt F))).Forall fun op => op.bufs ⊆ tcRefs τ sig :=
  ⟨unary_bufs_sub .., unary_bufs_sub .., binary_bufs_sub ..⟩

/-- All of @main's operations, in order. -/
abbrev ops : List (HloOp τ sig (Elt F)) := distOps ++ (argOps ++ (divOps ++ (remOps ++ outOps)))

/-- @main is that straight line. -/
theorem main_eq (c : Dev nD) : main (F := F) c = seq ops := rfl

/-- Every operation touches TensorCore references only. -/
theorem ops_sub : (ops : List (HloOp τ sig (Elt F))).Forall fun op => op.bufs ⊆ tcRefs τ sig := by
  simp only [List.forall_append]
  exact ⟨distOps_sub, argOps_sub, divOps_sub, remOps_sub, outOps_sub⟩

/-- Running one line after another. -/
theorem after_app (l₁ l₂ : List (HloOp τ sig (Elt F))) (V : Valuation τ sig (Elt F)) :
    after (l₁ ++ l₂) V = after l₂ (after l₁ V) := by
  induction l₁ generalizing V with
  | nil => rfl
  | cons a l ih => exact ih _

/-! ## What each segment leaves -/

/-- The first segment leaves the distances. -/
theorem after_dist (V : Valuation τ sig (Elt F)) :
    after distOps V (main_v10 : DevRef τ sig) = refDist (V (main_arg0 : DevRef τ sig)) (V (main_arg1 : DevRef τ sig)) := by
  after_results
  rfl

/-- The arg-min call leaves each row's index. -/
theorem after_arg (V : Valuation τ sig (Elt F)) :
    after argOps V (main_v11 : DevRef τ sig) = refArg (V (main_v10 : DevRef τ sig)) := by
  after_results
  rfl

/-- The floor division leaves the quotients. -/
theorem after_div (V : Valuation τ sig (Elt F)) :
    after divOps V (main_v12 : DevRef τ sig) = refDiv (V (main_v11 : DevRef τ sig)) := by
  after_results
  rfl

/-- The remainder call leaves the remainders. -/
theorem after_rem (V : Valuation τ sig (Elt F)) :
    after remOps V (main_v13 : DevRef τ sig) = refRem (V (main_v11 : DevRef τ sig)) := by
  after_results
  rfl

/-- The last segment pairs the two columns. -/
theorem after_out (V : Valuation τ sig (Elt F)) :
    after outOps V (main_v16 : DevRef τ sig) = refPair (V (main_v12 : DevRef τ sig)) (V (main_v13 : DevRef τ sig)) := by
  after_results
  rfl

/-- The floor division does not write the arg-min's index, -/
theorem div_keeps (V : Valuation τ sig (Elt F)) :
    after divOps V (main_v11 : DevRef τ sig) = V (main_v11 : DevRef τ sig) := by
  after_results

/-- nor does the remainder call write the quotients. -/
theorem rem_keeps (V : Valuation τ sig (Elt F)) :
    after remOps V (main_v12 : DevRef τ sig) = V (main_v12 : DevRef τ sig) := by
  after_results

/-- The whole line leaves `refOut` of the arguments in the result buffer. -/
theorem out_eq (V : Valuation τ sig (Elt F)) :
    after ops V (main_v16 : DevRef τ sig) = refOut (V (main_arg0 : DevRef τ sig)) (V (main_arg1 : DevRef τ sig)) := by
  simp only [ops, after_app]
  rw [after_out, rem_keeps, after_rem, after_div, div_keeps, after_arg, after_dist]
  rfl

/-- No operation writes the first argument, -/
theorem arg0_eq (V : Valuation τ sig (Elt F)) :
    after ops V (main_arg0 : DevRef τ sig) = V (main_arg0 : DevRef τ sig) := by
  simp only [ops, after_app]
  after_results

/-- nor the second. -/
theorem arg1_eq (V : Valuation τ sig (Elt F)) :
    after ops V (main_arg1 : DevRef τ sig) = V (main_arg1 : DevRef τ sig) := by
  simp only [ops, after_app]
  after_results

/-! ## The run -/

/-- The program declares no scoped buffer, -/
theorem scopedRefs_eq : (Finset.univ.filter fun b : Ref sig .tc => b.isScoped) = ∅ := by decide
/-- and no scoped semaphore. -/
theorem scopedSems_eq : (Finset.univ.filter fun sm : SemLoc sig => sm.isScoped .tc) = ∅ := by decide

/-- From any memory with zero counters every execution of the reference terminates with `refOut` of the arguments in
    its result buffer, its arguments unchanged, and every semaphore counter zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_v16)
            = refOut (m ((c.tc : Thread nD τ).loc main_arg0)) (m ((c.tc : Thread nD τ).loc main_arg1))
          ∧ r.2.mem ((c.tc : Thread nD τ).loc main_arg0) = m ((c.tc : Thread nD τ).loc main_arg0)
          ∧ r.2.mem ((c.tc : Thread nD τ).loc main_arg1) = m ((c.tc : Thread nD τ).loc main_arg1))
        ∧ r.2.sem = fun _ => 0 :=
  (θ_run defs _ _).mono
    (fun r h => ⟨fun c => ⟨(h c main_v16).trans (out_eq _), (h c main_arg0).trans (arg0_eq _),
      (h c main_arg1).trans (arg1_eq _)⟩, Idealize.ShloMosaic.sem_eq_zero_of_no_sems (by decide) r.2⟩)
    (run_seq scopedRefs_eq scopedSems_eq defs main (fun _ => ops) main_eq (fun _ => ops_sub) m ρ)

end Cert.Bmu.Reference

end
-- ==== Proof.Digits.lean ====
/-
  The integers at the end of both programs: from the word of an index below 4096 each computes the words of its quotient
  and its remainder by 64, the kernel in its own spelling and the reference in another.
-/
module

public import Idealize.ShloMosaic.Lib.Pointwise
public import proofs.«01_k».proof.Proof.Gen.KernelIdeal.Frame
public import proofs.«01_k».proof.Proof.ReferenceRun

@[expose] public section

set_option maxRecDepth 16384

noncomputable section

namespace Cert.Bmu

open Idealize.ShloMosaic Idealize.ShloMosaic.TcCoe Idealize.SL.Sem

/-- An index below 4096 is two digits below 64. -/
theorem exists_digits {n : ℕ} (hn : n < 4096) : ∃ p q : Fin 64, n = 64 * p + q :=
  ⟨⟨n / 64, by omega⟩, ⟨n % 64, by omega⟩, by show n = 64 * (n / 64) + n % 64; omega⟩

section Kernel
open Cert.KernelIdeal Cert.KernelIdeal.Gen

variable (s : FVec Ideal S1024x4096 .f32) (V : FVec Ideal S1024x128 .f32) (W : IVec S1024x128 32)

/-- The two columns the kernel stores. -/
def kPair : IVec S1024x2 32 :=
  k0_pay1 (k0_pay85 (F := Ideal) s V W) 64#32 (k0_pay86 (F := Ideal) s V W) (k0_pay87 (F := Ideal) s V W)
    (Scalar.cmpi .sgt 64#32 0#32)

/-- The kernel's first column is the index's quotient by 64. -/
theorem kPair_zero (b : Fin 1024) {n : ℕ} (hn : n < 4096) (h : k0_pay85 (F := Ideal) s V W (ix2 b 0) = BitVec.ofNat 32 n) :
    kPair s V W (ix2 b 0) = BitVec.ofNat 32 (n / 64) := by
  unfold kPair
  pointwise [k0_pay1, k0_pay86, k0_pay87]
  rw [h]
  obtain ⟨p, q, rfl⟩ := exists_digits hn
  clear h hn
  revert p q
  decide +kernel

/-- The kernel's second column is the index's remainder by 64. -/
theorem kPair_one (b : Fin 1024) {n : ℕ} (hn : n < 4096) (h : k0_pay85 (F := Ideal) s V W (ix2 b 0) = BitVec.ofNat 32 n) :
    kPair s V W (ix2 b 1) = BitVec.ofNat 32 (n % 64) := by
  unfold kPair
  pointwise [k0_pay1, k0_pay86, k0_pay87]
  rw [h]
  obtain ⟨p, q, rfl⟩ := exists_digits hn
  clear h hn
  revert p q
  decide +kernel

end Kernel

section Reference
open Cert.ReferenceIdeal Cert.ReferenceIdeal.Gen

/-- The reference's floor division of an index's word by 64. -/
theorem refDiv_apply (v : IVec S1024 32) (b : Fin 1024) {n : ℕ} (hn : n < 4096) (h : v (ix1 b) = BitVec.ofNat 32 n) :
    Reference.refDiv v (ix1 b) = BitVec.ofNat 32 (n / 64) := by
  pointwise [Reference.refDiv]
  rw [h]
  obtain ⟨p, q, rfl⟩ := exists_digits hn
  clear h hn
  revert p q
  decide +kernel

/-- The reference's remainder of an index's word by 64. -/
theorem refRem_apply (v : IVec S1024 32) (b : Fin 1024) {n : ℕ} (hn : n < 4096) (h : v (ix1 b) = BitVec.ofNat 32 n) :
    Reference.refRem v (ix1 b) = BitVec.ofNat 32 (n % 64) := by
  pointwise [Reference.refRem]
  rw [h]
  obtain ⟨p, q, rfl⟩ := exists_digits hn
  clear h hn
  revert p q
  decide +kernel

/-- The reference's first column, -/
theorem refPair_zero (u v : IVec S1024 32) (b : Fin 1024) : Reference.refPair u v (ix2 b 0) = u (ix1 b) := by
  pointwise [Reference.refPair]

/-- and its second. -/
theorem refPair_one (u v : IVec S1024 32) (b : Fin 1024) : Reference.refPair u v (ix2 b 1) = v (ix1 b) := by
  pointwise [Reference.refPair]

end Reference

end Cert.Bmu

end
-- ==== Proof.Least.lean ====
/-
  The first index at which a function on 0, …, N-1 is least, and the two steps by which the kernel looks for it: a running
  minimum over the tiles a lane passes through, and the least flat index over the lanes that attain the overall minimum.
-/
module

public import Idealize.ShloMosaic.PureOps.Ideal

@[expose] public section

namespace Cert.Bmu

variable {α : Type} [LinearOrder α]

/-- `n` is the first of 0, …, N-1 at which `f` is least: no `k` has a smaller value, and every `k` of equal value is at or
    after `n`. -/
def FirstMin (f : ℕ → α) (N n : ℕ) : Prop :=
  n < N ∧ ∀ k, k < N → f n < f k ∨ (f n = f k ∧ n ≤ k)

/-- The value at the first least index is a lower bound. -/
theorem FirstMin.le {f : ℕ → α} {N n : ℕ} (h : FirstMin f N n) {k : ℕ} (hk : k < N) : f n ≤ f k :=
  (h.2 k hk).elim le_of_lt fun e => e.1.le

/-- The first least index is at or before every index of no larger value. -/
theorem FirstMin.le_of_le {f : ℕ → α} {N n : ℕ} (h : FirstMin f N n) {k : ℕ} (hk : k < N) (e : f k ≤ f n) : n ≤ k :=
  (h.2 k hk).elim (fun l => absurd l (not_lt.2 e)) fun e => e.2

/-- There is only one first least index. -/
theorem FirstMin.unique {f : ℕ → α} {N n k : ℕ} (hn : FirstMin f N n) (hk : FirstMin f N k) : n = k :=
  le_antisymm (hn.le_of_le hk.1 (hk.le hn.1)) (hk.le_of_le hn.1 (hn.le hk.1))

/-- One more index: the first least index moves to it exactly when its value is strictly smaller. -/
theorem FirstMin.succ {f : ℕ → α} {N n : ℕ} (h : FirstMin f N n) : FirstMin f (N + 1) (if f N < f n then N else n) := by
  by_cases c : f N < f n
  · rw [if_pos c]
    refine ⟨Nat.lt_succ_self N, fun k hk => ?_⟩
    rcases Nat.lt_succ_iff_lt_or_eq.1 hk with hk | rfl
    · exact .inl (lt_of_lt_of_le c (h.le hk))
    · exact .inr ⟨rfl, le_rfl⟩
  · rw [if_neg c]
    refine ⟨Nat.lt_succ_of_lt h.1, fun k hk => ?_⟩
    rcases Nat.lt_succ_iff_lt_or_eq.1 hk with hk | rfl
    · exact h.2 k hk
    · exact (lt_or_eq_of_le (not_lt.1 c)).imp_right fun e => ⟨e, h.1.le⟩

/-- Of one index, that index. -/
theorem FirstMin.one (f : ℕ → α) : FirstMin f 1 0 :=
  ⟨Nat.one_pos, fun _ _ => by rename_i k hk; obtain rfl : k = 0 := by omega
                              exact .inr ⟨rfl, le_rfl⟩⟩

/-- A first least index exists. -/
theorem FirstMin.exists (f : ℕ → α) (N : ℕ) : ∃ n, FirstMin f (N + 1) n := by
  induction N with
  | zero => exact ⟨0, .one f⟩
  | succ N ih => obtain ⟨n, h⟩ := ih; exact ⟨_, h.succ⟩

/-- It depends on the order of the values alone. -/
theorem FirstMin.congr {β : Type} [LinearOrder β] {f : ℕ → α} {g : ℕ → β} {N n : ℕ}
    (e : ∀ i j, i < N → j < N → (f i ≤ f j ↔ g i ≤ g j)) (h : FirstMin f N n) : FirstMin g N n := by
  refine ⟨h.1, fun k hk => ?_⟩
  rcases h.2 k hk with l | ⟨l, hl⟩
  · exact .inl (not_le.1 fun c => not_le.2 l ((e k n hk h.1).2 c))
  · exact .inr ⟨le_antisymm ((e n k h.1 hk).1 l.le) ((e k n hk h.1).1 l.ge), hl⟩

/-- Tiles of 128: if in the lane `l` the first least tile is `T` and overall the first least index is `128 * T' + l`, then
    `T` is `T'`. -/
theorem FirstMin.lane {f : ℕ → α} {n T l : ℕ} (hl : l < 128) (h : FirstMin f 4096 n) (e : n % 128 = l)
    (hT : FirstMin (fun t => f (128 * t + l)) 32 T) : n = 128 * T + l := by
  have hn : n = 128 * (n / 128) + l := by omega
  have h32 := h.1
  have hT32 := hT.1
  have key : FirstMin (fun t => f (128 * t + l)) 32 (n / 128) := by
    refine ⟨by omega, fun k hk => ?_⟩
    have := h.2 (128 * k + l) (by omega)
    show f (128 * (n / 128) + l) < f (128 * k + l) ∨ _ = f (128 * k + l) ∧ _
    rw [← hn]
    exact this.imp_right fun e => ⟨by rw [← e.1]; show f (128 * (n / 128) + l) = _; rw [← hn], by omega⟩
  rw [hT.unique key]; exact hn

end Cert.Bmu

end
-- ==== Proof.Tiles.lean ====
/-
  The kernel's search for each row's least score, at the extended reals: lane by lane a running minimum over 32 tiles of
  128 columns with the number of the tile it came from, then the least over the lanes of the flat index `128 * tile + lane`
  where the lane's minimum is the row's. The word it leaves is that of the first index at which the row is least.
-/
module

public import Idealize.ShloMosaic.Lib.Pointwise
public import proofs.«01_k».proof.Proof.Gen.KernelIdeal.Frame
public import proofs.«01_k».proof.Proof.Least

@[expose] public section

set_option maxRecDepth 16384

noncomputable section

namespace Cert.Bmu

open Cert.KernelIdeal Cert.KernelIdeal.Gen
open Idealize.ShloMosaic Idealize.ShloMosaic.TcCoe Idealize.SL.Sem

/-- A row of 4096 values as a function of every natural number (past the end, ⊤). -/
def row (f : Fin 4096 → EReal) (n : ℕ) : EReal := if h : n < 4096 then f ⟨n, h⟩ else ⊤

/-- Inside the row it reads the row. -/
theorem row_of_lt (f : Fin 4096 → EReal) {n : ℕ} (h : n < 4096) : row f n = f ⟨n, h⟩ := dif_pos h

/-- Row `b` of the array of scores. -/
abbrev rowOf (s : FVec Ideal S1024x4096 .f32) (b : Fin 1024) : ℕ → EReal := row fun k => s (ix2 b k)

/-! ## The running minimum -/

/-- After tile `t`: every lane holds its least value so far in `V` and, in `W`, the first tile it occurred in. -/
def Running (s : FVec Ideal S1024x4096 .f32) (t : ℕ) (V : FVec Ideal S1024x128 .f32) (W : IVec S1024x128 32) : Prop :=
  ∀ (b : Fin 1024) (l : Fin 128), ∃ T, FirstMin (fun u => rowOf s b (128 * u + l)) (t + 1) T
    ∧ V (ix2 b l) = rowOf s b (128 * T + l) ∧ W (ix2 b l) = BitVec.ofNat 32 T

/-- A tile's slice of the scores reads the row at its offset. -/
theorem slice_apply (s : FVec Ideal S1024x4096 .f32) (o : ℕ) (h : S1024x4096.Slices ![0, o] S1024x128)
    (b : Fin 1024) (l : Fin 128) : extractStridedSlice S1024x128 ![0, o] s h (ix2 b l) = rowOf s b (o + l) := by
  have hb : o + 128 ≤ 4096 := h.2 1
  have hl := l.isLt
  rw [rowOf, row_of_lt _ (by omega)]
  pointwise []

/-- The first tile starts it, -/
theorem Running.zero (s : FVec Ideal S1024x4096 .f32) (h : S1024x4096.Slices ![0, 0] S1024x128) :
    Running s 0 (extractStridedSlice S1024x128 ![0, 0] s h) (broadcast S1024x128 0#32) := fun b l =>
  ⟨0, .one _, slice_apply s 0 h b l, rfl⟩

/-- and the next tile replaces a lane's value and tile exactly where its own value is strictly smaller. -/
theorem Running.step {s : FVec Ideal S1024x4096 .f32} (t : ℕ) {V : FVec Ideal S1024x128 .f32} {W : IVec S1024x128 32}
    (H : Running s t V W) (h : S1024x4096.Slices ![0, 128 * (t + 1)] S1024x128) :
    Running s (t + 1)
      (select (cmpf .olt (extractStridedSlice S1024x128 ![0, 128 * (t + 1)] s h) V)
        (extractStridedSlice S1024x128 ![0, 128 * (t + 1)] s h) V)
      (select (cmpf .olt (extractStridedSlice S1024x128 ![0, 128 * (t + 1)] s h) V)
        (broadcast S1024x128 (BitVec.ofNat 32 (t + 1))) W) := by
  intro b l
  obtain ⟨T, hT, hV, hW⟩ := H b l
  refine ⟨_, hT.succ, ?_⟩
  have hs := slice_apply s (128 * (t + 1)) h b l
  generalize extractStridedSlice S1024x128 ![0, 128 * (t + 1)] s h = C at hs ⊢
  pointwise []
  rw [hs, hV, hW]
  by_cases c : rowOf s b (128 * (t + 1) + l) < rowOf s b (128 * T + l)
  · rw [if_pos c, if_pos c, if_pos c]; exact ⟨rfl, rfl⟩
  · rw [if_neg c, if_neg c, if_neg c]; exact ⟨rfl, rfl⟩

/-! ## The end of the search -/

/-- From the lanes' minima and tiles: the row's minimum, and the least flat index among the lanes that attain it. -/
def least (V : FVec Ideal S1024x128 .f32) (W : IVec S1024x128 32) : IVec S1024x1 32 :=
  shapeCast S1024x1
    (multiReductionI .minsi [1] S1024
      (select
        (cmpf .ole V (broadcastTo S1024x128
          (shapeCast S1024x1
            (multiReduction (F := Ideal) (φ := .f32) .minimumf [1] S1024 V 0x7F800000#32 reduces_S1024x128_S1024 (.inl rfl) rfl)
            shapeCasts_S1024_S1024x1) broadcasts_S1024x1_S1024x128))
        (addi (muli W (broadcast S1024x128 128#32)) (iota .tc S1024x128 32 [1] iota_S1024x128_d1_w32))
        (broadcast S1024x128 4096#32))
      2147483647#32 reduces_S1024x128_S1024 rfl)
    shapeCasts_S1024_S1024x1

/-- A fold of signed minima is a word of the family that is at most every other and at most the start. -/
theorem fold_minsi {ι : Type} (S : Finset ι) (f : ι → BitVec 32) (z w : BitVec 32) (i : ι) (hi : i ∈ S) (hw : f i = w)
    (hz : w.toInt ≤ z.toInt) (h : ∀ k ∈ S, w.toInt ≤ (f k).toInt) : S.fold IntOp.minsi z f = w := by
  have key : ∀ R : Finset ι, R ⊆ S → w.toInt ≤ (R.fold IntOp.minsi z f).toInt
      ∧ (i ∈ R → R.fold IntOp.minsi z f = w) := by
    classical
    intro R
    induction R using Finset.induction_on with
    | empty => exact fun _ => ⟨by simpa using hz, fun h => absurd h (Finset.notMem_empty _)⟩
    | insert a R ha ih =>
      intro hR
      obtain ⟨h1, h2⟩ := ih fun x hx => hR (Finset.mem_insert_of_mem hx)
      have hfa := h a (hR (Finset.mem_insert_self _ _))
      rw [Finset.fold_insert ha]
      generalize R.fold IntOp.minsi z f = r at h1 h2 ⊢
      unfold IntOp.minsi
      simp only [BitVec.slt, decide_eq_true_eq]
      constructor
      · split <;> assumption
      · intro hm
        rcases Finset.mem_insert.1 hm with rfl | hm
        · split
          · exact hw
          · rename_i c; exact BitVec.eq_of_toInt_eq (by rw [hw] at c; omega)
        · rw [h2 hm] at *
          rw [if_neg (by omega)]
  exact (key S subset_rfl).2 hi

/-- A fold of minima from ⊤ is the value that is attained and a lower bound. -/
theorem fold_min {ι : Type} (S : Finset ι) (f : ι → EReal) (v : EReal) (i : ι) (hi : i ∈ S) (hv : f i = v)
    (h : ∀ k ∈ S, v ≤ f k) : S.fold min ⊤ f = v := by
  refine le_antisymm ?_ ?_
  · exact (Finset.fold_min_le _).2 (.inr ⟨i, hi, hv.le⟩)
  · exact (Finset.le_fold_min _).2 ⟨le_top, h⟩

/-- The binary32 pattern of positive infinity is ⊤. -/
theorem ofBits_inf : Ideal.ofBits .f32 2139095040#32 = ⊤ := by
  simp [Ideal.ofBits, Ideal.ieee]

/-- A small natural's word reads back signed as itself. -/
theorem toInt_small {n : ℕ} (h : n < 2 ^ 31) : (BitVec.ofNat 32 n).toInt = n := by
  rw [BitVec.toInt_ofNat', Int.bmod_eq_of_le (by omega) (by omega)]

/-- A flat index's word, computed from its tile's and its lane's. -/
theorem flat_word (T l : ℕ) :
    IntOp.addi (IntOp.muli (BitVec.ofNat 32 T) 128#32) (BitVec.ofNat 32 l) = BitVec.ofNat 32 (128 * T + l) := by
  simp only [IntOp.addi, IntOp.muli]
  rw [← BitVec.ofNat_mul, ← BitVec.ofNat_add, Nat.mul_comm]

/-- After the last tile the search leaves, in row `b`, the word of the first index at which the row's score is least. -/
theorem least_apply {s : FVec Ideal S1024x4096 .f32} {V : FVec Ideal S1024x128 .f32} {W : IVec S1024x128 32}
    (H : Running s 31 V W) (b : Fin 1024) (u : Fin 1) {n : ℕ} (hn : FirstMin (rowOf s b) 4096 n) :
    least V W (ix2 b u) = BitVec.ofNat 32 n := by
  pointwise [least]
  rw [ofBits_inf]
  have hn1 := hn.1
  have hlane : n % 128 < 128 := Nat.mod_lt _ (by omega)
  obtain ⟨T, hT, hV, hW⟩ := H b ⟨n % 128, hlane⟩
  have hnT := hn.lane hlane rfl hT
  have hVn : V (ix2 b ⟨n % 128, hlane⟩) = rowOf s b n := hV.trans (congrArg _ hnT.symm)
  have hmin : Finset.univ.fold min ⊤ (fun x => V (ix2 b x)) = rowOf s b n := by
    refine fold_min _ _ _ ⟨n % 128, hlane⟩ (Finset.mem_univ _) hVn fun l _ => ?_
    obtain ⟨U, hU, hVU, -⟩ := H b l
    have := hU.1
    have := l.isLt
    rw [hVU]
    exact hn.le (by omega)
  rw [hmin]
  refine fold_minsi _ _ _ _ ⟨n % 128, hlane⟩ (Finset.mem_univ _) ?_ ?_ fun l _ => ?_
  · rw [if_pos hVn.le, hW, flat_word]
    exact congrArg _ hnT.symm
  · rw [toInt_small (by omega)]
    exact le_trans (Int.ofNat_le.2 hn1.le) (by decide)
  · obtain ⟨U, hU, hVU, hWU⟩ := H b l
    have := hU.1
    have := l.isLt
    rw [toInt_small (by omega)]
    split
    · rename_i c
      rw [hWU, flat_word, toInt_small (by omega)]
      exact Int.ofNat_le.2 (hn.le_of_le (by omega) (hVU ▸ c))
    · exact le_trans (Int.ofNat_le.2 hn1.le) (by decide)

/-! ## The printed search -/

/-- The first seven tiles. -/
theorem running6 (x : FVec Ideal S1024x32 .f32) (w : FVec Ideal S32x4096 .f32) :
    Running (k0_pay2 (F := Ideal) x w) 6 (k0_pay21 (F := Ideal) x w) (k0_pay22 (F := Ideal) x w) :=
  ((((((Running.zero _ slices_S1024x4096_o0_0_S1024x128).step 0 slices_S1024x4096_o0_128_S1024x128).step 1
    slices_S1024x4096_o0_256_S1024x128).step 2 slices_S1024x4096_o0_384_S1024x128).step 3
    slices_S1024x4096_o0_512_S1024x128).step 4 slices_S1024x4096_o0_640_S1024x128).step 5
    slices_S1024x4096_o0_768_S1024x128

/-- Ten tiles more. -/
theorem running16 {s : FVec Ideal S1024x4096 .f32} {V : FVec Ideal S1024x128 .f32} {W : IVec S1024x128 32}
    (H : Running s 6 V W) : Running s 16 (k0_pay52 (F := Ideal) s V) (k0_pay53 (F := Ideal) s V W) :=
  (((((((((H.step 6 slices_S1024x4096_o0_896_S1024x128).step 7 slices_S1024x4096_o0_1024_S1024x128).step 8
    slices_S1024x4096_o0_1152_S1024x128).step 9 slices_S1024x4096_o0_1280_S1024x128).step 10
    slices_S1024x4096_o0_1408_S1024x128).step 11 slices_S1024x4096_o0_1536_S1024x128).step 12
    slices_S1024x4096_o0_1664_S1024x128).step 13 slices_S1024x4096_o0_1792_S1024x128).step 14
    slices_S1024x4096_o0_1920_S1024x128).step 15 slices_S1024x4096_o0_2048_S1024x128

/-- Ten tiles more. -/
theorem running26 {s : FVec Ideal S1024x4096 .f32} {V : FVec Ideal S1024x128 .f32} {W : IVec S1024x128 32}
    (H : Running s 16 V W) : Running s 26 (k0_pay83 (F := Ideal) s V) (k0_pay84 (F := Ideal) s V W) :=
  (((((((((H.step 16 slices_S1024x4096_o0_2176_S1024x128).step 17 slices_S1024x4096_o0_2304_S1024x128).step 18
    slices_S1024x4096_o0_2432_S1024x128).step 19 slices_S1024x4096_o0_2560_S1024x128).step 20
    slices_S1024x4096_o0_2688_S1024x128).step 21 slices_S1024x4096_o0_2816_S1024x128).step 22
    slices_S1024x4096_o0_2944_S1024x128).step 23 slices_S1024x4096_o0_3072_S1024x128).step 24
    slices_S1024x4096_o0_3200_S1024x128).step 25 slices_S1024x4096_o0_3328_S1024x128

/-- The last five tiles, and the end of the search. -/
theorem pay85_eq {s : FVec Ideal S1024x4096 .f32} {V : FVec Ideal S1024x128 .f32} {W : IVec S1024x128 32}
    (H : Running s 26 V W) : ∃ V' W', Running s 31 V' W' ∧ k0_pay85 (F := Ideal) s V W = least V' W' :=
  ⟨_, _, ((((H.step 26 slices_S1024x4096_o0_3456_S1024x128).step 27 slices_S1024x4096_o0_3584_S1024x128).step 28
    slices_S1024x4096_o0_3712_S1024x128).step 29 slices_S1024x4096_o0_3840_S1024x128).step 30
    slices_S1024x4096_o0_3968_S1024x128, rfl⟩

/-- The index word the body computes, over the whole of the scores, in row `b`. -/
theorem index_apply (x : FVec Ideal S1024x32 .f32) (w : FVec Ideal S32x4096 .f32) (b : Fin 1024) (u : Fin 1) {n : ℕ}
    (hn : FirstMin (rowOf (k0_pay2 (F := Ideal) x w) b) 4096 n) :
    k0_pay85 (F := Ideal) (k0_pay2 (F := Ideal) x w)
        (k0_pay83 (F := Ideal) (k0_pay2 (F := Ideal) x w) (k0_pay52 (F := Ideal) (k0_pay2 (F := Ideal) x w) (k0_pay21 (F := Ideal) x w)))
        (k0_pay84 (F := Ideal) (k0_pay2 (F := Ideal) x w) (k0_pay52 (F := Ideal) (k0_pay2 (F := Ideal) x w) (k0_pay21 (F := Ideal) x w))
          (k0_pay53 (F := Ideal) (k0_pay2 (F := Ideal) x w) (k0_pay21 (F := Ideal) x w) (k0_pay22 (F := Ideal) x w)))
        (ix2 b u)
      = BitVec.ofNat 32 n := by
  obtain ⟨V', W', h, e⟩ := pay85_eq (running26 (running16 (running6 x w)))
  rw [e]
  exact least_apply h b u hn

end Cert.Bmu

end
-- ==== Proof.Scores.lean ====
/-
  The equation: over finite inputs the squared distance of an input row from a code is the kernel's score of the pair plus
  the row's own squared length, so in each row the scores and the distances stand in one order.
-/
module

public import Idealize.ShloMosaic.Lib.Pointwise
public import Idealize.ShloMosaic.Lib.IdealHost
public import proofs.«01_k».proof.Proof.Gen.KernelIdeal.Frame
public import proofs.«01_k».proof.Proof.ReferenceRun
public import proofs.«01_k».proof.Proof.Tiles

@[expose] public section

set_option maxRecDepth 16384

noncomputable section

namespace Cert.Bmu

open Idealize.ShloMosaic Idealize.ShloMosaic.TcCoe Idealize.SL.Sem
open scoped BigOperators

open Cert.KernelIdeal (S1024x32 S64x64x32 S4096x32 S32x4096)

/-- The codes as the kernel's launch is given them: flattened to a list and transposed. -/
def codesT (w : FVec Ideal S64x64x32 .f32) : FVec Ideal S32x4096 .f32 :=
  transpose S32x4096 [1, 0] (shapeCast S4096x32 w)

/-- Code `k` of the grid, at coordinate `j`. -/
def code {α : Type} (w : S64x64x32.Idx → α) (k : Fin 4096) (j : Fin 32) : α :=
  w (ix3 ⟨k / 64, by omega⟩ ⟨k % 64, by omega⟩ j)

/-- The pattern of −2. -/
theorem ofBits_neg_two : Ideal.ofBits .f32 3221225472#32 = ((-2 : ℝ) : EReal) := by
  simp [Ideal.ofBits, Ideal.ieee, -EReal.coe_mul]; norm_num

/-- The pattern of a half. -/
theorem ofBits_half : Ideal.ofBits .f32 1056964608#32 = ((1 / 2 : ℝ) : EReal) := by
  simp [Ideal.ofBits, Ideal.ieee, -EReal.coe_mul]; norm_num

/-- The coercion of a finite sum of reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The score over reals. -/
def scoreR (X : S1024x32.Idx → ℝ) (W : S64x64x32.Idx → ℝ) (b : Fin 1024) (k : Fin 4096) : ℝ :=
  (∑ j : Fin 32, X (ix2 b j) * (code W k j * -2)) + ∑ j : Fin 32, code W k j * code W k j

/-- The squared distance over reals. -/
def sqR (X : S1024x32.Idx → ℝ) (W : S64x64x32.Idx → ℝ) (b : Fin 1024) (k : Fin 4096) : ℝ :=
  ∑ j : Fin 32, |X (ix2 b j) - code W k j| * |X (ix2 b j) - code W k j|

/-- The squared distance is the score plus the row's squared length. -/
theorem sqR_eq (X : S1024x32.Idx → ℝ) (W : S64x64x32.Idx → ℝ) (b : Fin 1024) (k : Fin 4096) :
    sqR X W b k = (∑ j : Fin 32, X (ix2 b j) * X (ix2 b j)) + scoreR X W b k := by
  unfold sqR scoreR
  rw [← Finset.sum_add_distrib, ← Finset.sum_add_distrib]
  refine Finset.sum_congr rfl fun j _ => ?_
  rw [abs_mul_abs_self]; ring

/-- A squared distance is not negative. -/
theorem sqR_nonneg (X : S1024x32.Idx → ℝ) (W : S64x64x32.Idx → ℝ) (b : Fin 1024) (k : Fin 4096) : 0 ≤ sqR X W b k :=
  Finset.sum_nonneg fun _ _ => mul_nonneg (abs_nonneg _) (abs_nonneg _)

variable {x : FVec Ideal S1024x32 .f32} {w : FVec Ideal S64x64x32 .f32} {X : S1024x32.Idx → ℝ} {W : S64x64x32.Idx → ℝ}

/-- A flattened, transposed code read at an index. -/
theorem codesT_apply (w : FVec Ideal S64x64x32 .f32) (j : Fin 32) (k : Fin 4096) : codesT w (ix2 j k) = code w k j := by
  unfold codesT code
  pointwise []

open Cert.KernelIdeal.Gen in
/-- The kernel's score of a row and a code, over finite inputs. -/
theorem score_apply (hx : ∀ i, x i = (X i : EReal)) (hw : ∀ i, w i = (W i : EReal)) (b : Fin 1024) (k : Fin 4096) :
    k0_pay2 (F := Ideal) x (codesT w) (ix2 b k) = (scoreR X W b k : EReal) := by
  pointwise [k0_pay2]
  simp only [codesT_apply, ofBits_neg_two, hx, code, hw, Finset.univ_unique, Finset.sum_const, Finset.card_singleton,
    one_smul]
  unfold scoreR code
  rw [EReal.coe_add, coe_sum, coe_sum]
  simp only [EReal.coe_mul]

/-- The reference's distance of a row from a code, over finite inputs. -/
theorem dist_apply (hx : ∀ i, x i = (X i : EReal)) (hw : ∀ i, w i = (W i : EReal)) (b : Fin 1024) (k : Fin 4096) :
    Reference.refDist (F := Ideal) x w (ix2 b k) = ((Real.rpow (sqR X W b k) (1 / 2) : ℝ) : EReal) := by
  pointwise [Reference.refDist]
  have e : ∀ j : Fin 32, FloatOps.absf (x (ix2 b j) - w (ix3 ⟨k / 64, by omega⟩ ⟨k % 64, by omega⟩ j) : Ideal .f32)
      = ((|X (ix2 b j) - code W k j| : ℝ) : EReal) := fun j => by
    rw [hx, hw, Ideal.absf_def, ← EReal.coe_sub, ← EReal.coe_neg, ← EReal.coe_strictMono.monotone.map_max]; rfl
  simp only [e, ofBits_half, ← EReal.coe_mul, ← coe_sum]
  exact Ideal.pow_coe_coe _ _

/-- So the two stand in one order. -/
theorem score_le_iff (hx : ∀ i, x i = (X i : EReal)) (hw : ∀ i, w i = (W i : EReal)) (b : Fin 1024) (i k : Fin 4096) :
    Cert.KernelIdeal.Gen.k0_pay2 (F := Ideal) x (codesT w) (ix2 b i)
        ≤ Cert.KernelIdeal.Gen.k0_pay2 (F := Ideal) x (codesT w) (ix2 b k)
      ↔ Reference.refDist (F := Ideal) x w (ix2 b i) ≤ Reference.refDist (F := Ideal) x w (ix2 b k) := by
  rw [score_apply hx hw, score_apply hx hw, dist_apply hx hw, dist_apply hx hw, EReal.coe_le_coe_iff,
    EReal.coe_le_coe_iff]
  refine Iff.trans ?_ (Real.rpow_le_rpow_iff (sqR_nonneg X W b i) (sqR_nonneg X W b k) (by norm_num)).symm
  rw [sqR_eq, sqR_eq, add_le_add_iff_left]

end Cert.Bmu

end
-- ==== Proof.KernelValue.lean ====
/-
  The array the kernel leaves: the launch has one grid point whose blocks are the whole arrays, so the result array ends
  holding the two columns computed from the inputs and the flattened, transposed codes.
-/
module

public import Idealize.ShloMosaic.Lib.Pipeline.Value
public import Idealize.ShloMosaic.Lib.StableHlo.Run
public import Idealize.ShloMosaic.Lib.StableHlo.RunRead
public import proofs.«01_k».proof.Proof.Gen.KernelIdeal.Value
public import proofs.«01_k».proof.Proof.Digits
public import proofs.«01_k».proof.Proof.Scores

@[expose] public section

set_option maxRecDepth 16384

noncomputable section

namespace Cert.Bmu

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The kernel's result as a function of its two block operands. -/
def kOut (x : FVec Ideal S1024x32 .f32) (y : FVec Ideal S32x4096 .f32) : IVec S1024x2 32 :=
  let s : FVec Ideal S1024x4096 .f32 := k0_pay2 (F := Ideal) x y
  let v : FVec Ideal S1024x128 .f32 := k0_pay21 (F := Ideal) x y
  let a : IVec S1024x128 32 := k0_pay22 (F := Ideal) x y
  kPair s (k0_pay83 s (k0_pay52 s v)) (k0_pay84 s (k0_pay52 s v) (k0_pay53 s v a))

/-- Zero offsets on two axes. -/
theorem zero_offsets : (![0, 0] : Fin 2 → Nat) = fun _ => 0 := funext fun a => by fin_cases a <;> rfl

/-- What the body's stores leave of its two blocks. -/
theorem out_eq_kOut (x : FVec Ideal S1024x32 .f32) (y : FVec Ideal S32x4096 .f32) : out0_2 (F := Ideal) x y = kOut x y := by
  unfold out0_2 k0_pay92 k0_pay91 k0_pay90 k0_pay89 k0_pay88
  rw [View.canon_unit_zero zero_offsets, View.ld_unit_zero zero_offsets, View.ld_unit_zero zero_offsets]
  rfl

/-- The second operand when the kernel is launched: the codes, flattened and transposed. -/
theorem V_main_v1 (c : Dev nD) : V m c main_v1 = codesT (m ((c.tc : Thread nD τ).loc main_arg1)) := by
  show StableHlo.after hostOps0 _ _ = _
  simp only [hostOps0, List.flatten_cons, List.flatten_nil, List.append_nil, List.cons_append, List.nil_append]
  after_results
  rfl

/-- The first window's block is the whole input array, -/
theorem iblk_x (c : Dev nD) (t : Fin cfg0.N) : iblk m c 0 t = m ((c.tc : Thread nD τ).loc main_arg0) := by
  obtain rfl := fin_N0 t
  rw [← V_main_arg0 m c]
  funext i
  refine congrArg (V m c main_arg0) (funext fun a => Fin.ext ?_)
  have h : ∀ a, win0_0.kind.off (win0_0.index t0_0 a) (win0_0.size a) = 0 := by decide +kernel
  show win0_0.kind.off (win0_0.index t0_0 a) (win0_0.size a) + 1 * (i a : ℕ) = i a
  rw [h, zero_add, one_mul]

/-- and the second's the whole array of codes. -/
theorem iblk_w (c : Dev nD) (t : Fin cfg0.N) : iblk m c 1 t = codesT (m ((c.tc : Thread nD τ).loc main_arg1)) := by
  obtain rfl := fin_N0 t
  rw [← V_main_v1 m c]
  funext i
  refine congrArg (V m c main_v1) (funext fun a => Fin.ext ?_)
  have h : ∀ a, win0_1.kind.off (win0_1.index t0_0 a) (win0_1.size a) = 0 := by decide +kernel
  show win0_1.kind.off (win0_1.index t0_0 a) (win0_1.size a) + 1 * (i a : ℕ) = i a
  rw [h, zero_add, one_mul]

/-- The result array after the run. -/
def kFinal (c : Dev nD) : Buf (Elt Ideal) ((c.tc : Thread nD τ).loc main_v2) :=
  kOut (m ((c.tc : Thread nD τ).loc main_arg0)) (codesT (m ((c.tc : Thread nD τ).loc main_arg1)))

/-- What the grid point writes back is the whole of it. -/
theorem flushed_eq (c : Dev nD) (t : Fin cfg0.N) :
    (dats m 0 c).flushed 2 t = ((cfg0.win 2).blk t).view.read (Elt Ideal) (kFinal m c) := by
  rw [Value.flushed2, iblk_x, iblk_w, out_eq_kOut]
  obtain rfl := fin_N0 t
  funext i
  refine congrArg (kFinal m c) (funext fun a => Fin.ext ?_)
  have h : ∀ a, win0_2.kind.off (win0_2.index t0_0 a) (win0_2.size a) = 0 := by decide +kernel
  show (i a : ℕ) = win0_2.kind.off (win0_2.index t0_0 a) (win0_2.size a) + 1 * (i a : ℕ)
  rw [h, zero_add, one_mul]

/-- An index of the result array is in the one point's block. -/
theorem mem_blk (t : Fin cfg0.N) (i : S1024x2.Idx) : i ∈ ((cfg0.win 2).blk t).view.set := by
  show i ∈ ((View.whole main_v2).slice (win0_2.rect t)).set
  rw [View.set_slice_whole, Rect.mem_set_unit]
  obtain rfl := fin_N0 t
  have h : ∀ a, win0_2.kind.off (win0_2.index t0_0 a) (win0_2.size a) = 0
      ∧ win0_2.xsize (grid0.coords t0_0) a = win0_2.shape.size a := by decide +kernel
  intro a
  rw [(h a).1, (h a).2, zero_add]
  exact ⟨Nat.zero_le _, (i a).isLt⟩

/-- So the array ends holding it, -/
theorem final_eq (c : Dev nD) : (dats m 0 c).arrAt 2 cfg0.N = kFinal m c :=
  (dats m 0 c).arrAt_eq_of_cover 2 (kFinal m c) (fun t _ => flushed_eq m c t)
    fun i => ⟨t0_0, flush0_2 _, mem_blk t0_0 i⟩

/-- and the run leaves it there, the arguments unchanged. -/
theorem run_kernel : θ_run defs (onTc (τ := τ) (main (F := Ideal))) ⟨m, fun _ => 0, ρ⟩ fun r => ∀ c : Dev nD,
    r.2.mem ((c.tc : Thread nD τ).loc main_v2) = kFinal m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1).trans (final_eq m c), (h c).2⟩) (Value.run_blocks m ρ)

end Cert.Bmu

end
-- ==== Proof.ArgMin.lean ====
/-
  The reference's arg-min of a row: its left fold over the row's (value, index) pairs keeps the pair of smaller value, and
  of equal values the one of smaller index; so, when no value is ⊤, it ends at the first index at which the row is least.
-/
module

public import Idealize.ShloMosaic.Lib.Pointwise
public import Idealize.ShloMosaic.PureOps.Ideal.Laws
public import Idealize.ShloMosaic.PureOps.Reduce
public import proofs.«01_k».proof.Proof.ReferenceRun
public import proofs.«01_k».proof.Proof.Tiles

@[expose] public section

set_option maxRecDepth 16384

noncomputable section

namespace Cert.Bmu

open Cert.ReferenceIdeal Cert.ReferenceIdeal.Gen
open Idealize.ShloMosaic Idealize.ShloMosaic.TcCoe Idealize.SL.Sem

/-- A pair is at or before another: a smaller value, or an equal one and an index no larger. -/
def Before (a b : EReal × BitVec 32) : Prop := a.1 < b.1 ∨ (a.1 = b.1 ∧ a.2.toInt ≤ b.2.toInt)

/-- Every pair is at or before itself, -/
theorem Before.refl (a : EReal × BitVec 32) : Before a a := .inr ⟨rfl, le_rfl⟩

/-- and the relation is transitive. -/
theorem Before.trans {a b c : EReal × BitVec 32} (h : Before a b) (k : Before b c) : Before a c := by
  rcases h with h | ⟨h, h'⟩ <;> rcases k with k | ⟨k, k'⟩
  · exact .inl (h.trans k)
  · exact .inl (k ▸ h)
  · exact .inl (h ▸ k)
  · exact .inr ⟨h.trans k, h'.trans k'⟩

/-- The program's reduction body keeps one of its two pairs, and the one it keeps is at or before both. -/
theorem reducer_spec (a b : EReal × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  obtain ⟨x, i⟩ := a
  obtain ⟨y, j⟩ := b
  have e : reducer_argmin_f32_i32 (F := Ideal) (x, i) (y, j)
      = if x < y then (x, i) else if x = y ∧ i.toInt < j.toInt then (x, i) else (y, j) := by
    unfold reducer_argmin_f32_i32
    simp only [Ideal.cmpf_def, Ideal.cmp, IntOp.cmpi, BitVec.slt, Scalar.select]
    by_cases h1 : x < y
    · simp [h1, h1.ne, IntOp.ori, IntOp.andi]
    · by_cases h2 : x = y <;> by_cases h3 : i.toInt < j.toInt <;> simp [h1, h2, h3, IntOp.ori, IntOp.andi]
  rw [e]
  by_cases h1 : x < y
  · rw [if_pos h1]; exact ⟨.inl rfl, .refl _, .inl h1⟩
  · rw [if_neg h1]
    by_cases h2 : x = y ∧ i.toInt < j.toInt
    · rw [if_pos h2]; exact ⟨.inl rfl, .refl _, .inr ⟨h2.1, h2.2.le⟩⟩
    · rw [if_neg h2]
      refine ⟨.inr rfl, ?_, .refl _⟩
      rcases lt_or_eq_of_le (not_lt.1 h1) with h | h
      · exact .inl h
      · exact .inr ⟨h, not_lt.1 fun c => h2 ⟨h.symm, c⟩⟩

/-- The left fold of the body ends at one of the pairs it met, and that pair is at or before all of them. -/
theorem foldl_spec (l : List (EReal × BitVec 32)) (z : EReal × BitVec 32) :
    l.foldl (reducer_argmin_f32_i32 (F := Ideal)) z ∈ z :: l
      ∧ ∀ p ∈ z :: l, Before (l.foldl (reducer_argmin_f32_i32 (F := Ideal)) z) p := by
  induction l generalizing z with
  | nil => exact ⟨List.mem_singleton.2 rfl, fun p hp => List.mem_singleton.1 hp ▸ .refl _⟩
  | cons a l ih =>
    obtain ⟨hm, hb⟩ := ih (reducer_argmin_f32_i32 (F := Ideal) z a)
    obtain ⟨hr, hz, ha⟩ := reducer_spec z a
    rw [List.foldl_cons]
    have h0 := hb _ (List.mem_cons_self ..)
    constructor
    · rcases List.mem_cons.1 hm with h | h
      · rw [h]
        rcases hr with h | h <;> rw [h] <;> simp
      · exact List.mem_cons_of_mem _ (List.mem_cons_of_mem _ h)
    · intro p hp
      rcases List.mem_cons.1 hp with rfl | hp
      · exact h0.trans hz
      · rcases List.mem_cons.1 hp with rfl | hp
        · exact h0.trans ha
        · exact hb _ (List.mem_cons_of_mem _ hp)

/-- So, over a list of the entries of `f` with their positions, none of them ⊤, the fold from a pair of value ⊤ ends at the first
    position at which `f` is least. -/
theorem foldl_first (f : Fin 4096 → EReal) (l : List (EReal × BitVec 32)) (z : EReal × BitVec 32) (hz : z.1 = ⊤)
    (hl : ∀ p, p ∈ l ↔ ∃ k : Fin 4096, p = (f k, BitVec.ofNat 32 k)) (hf : ∀ k, f k < ⊤) {n : ℕ}
    (hn : FirstMin (row f) 4096 n) : (l.foldl (reducer_argmin_f32_i32 (F := Ideal)) z).2 = BitVec.ofNat 32 n := by
  obtain ⟨hm, hb⟩ := foldl_spec l z
  generalize List.foldl _ _ _ = r at hm hb ⊢
  have hn1 := hn.1
  rcases List.mem_cons.1 hm with h | h
  · exfalso
    have hB := hb _ (List.mem_cons_of_mem _ ((hl _).2 ⟨⟨n, hn1⟩, rfl⟩))
    rw [h] at hB
    rcases hB with h | ⟨h, -⟩
    · exact not_top_lt (hz ▸ h)
    · exact (hf ⟨n, hn1⟩).ne (h.symm.trans hz)
  · obtain ⟨k, rfl⟩ := (hl _).1 h
    have e : (k : ℕ) = n := by
      refine FirstMin.unique (f := row f) (N := 4096) ⟨k.isLt, fun q hq => ?_⟩ hn
      have hB := hb _ (List.mem_cons_of_mem _ ((hl _).2 ⟨⟨q, hq⟩, rfl⟩))
      rw [row_of_lt _ k.isLt, row_of_lt _ hq]
      refine hB.imp_right fun h => ⟨h.1, ?_⟩
      have h2 := h.2
      have := k.isLt
      rw [toInt_small (by omega), toInt_small (by omega)] at h2
      exact Int.ofNat_le.1 h2
    rw [e]

/-- An index of the array lies in row `b` exactly when its first coordinate is `b`. -/
theorem drop_eq_iff (i : S1024x4096.Idx) (b : Fin 1024) :
    reducesTo_S1024x4096_S1024_d1.drop i = ix1 b ↔ (i 0 : ℕ) = b := by
  simp [funext_iff, Fin.ext_iff, Fin.forall_fin_one, reducesTo_S1024x4096_S1024_d1.drop_apply_val_of_eq i 0 0]

/-- The position each entry carries is its column. -/
theorem iota_apply (b : Fin 1024) (k : Fin 4096) :
    iotaInDim S1024x4096 32 1 (ix2 b k) = BitVec.ofNat 32 k := by
  pointwise []

/-- The pairs the fold meets in row `b` are the row's entries with their positions. -/
theorem mem_fiber (d : FVec Ideal S1024x4096 .f32) (b : Fin 1024) (p : EReal × BitVec 32) :
    p ∈ Host.argReduceFiber (α := EReal) d (iotaInDim S1024x4096 32 1) reducesTo_S1024x4096_S1024_d1 (ix1 b)
      ↔ ∃ k : Fin 4096, p = (d (ix2 b k), BitVec.ofNat 32 k) := by
  unfold Host.argReduceFiber
  simp only [List.mem_map, List.mem_filter, List.mem_finRange, true_and, decide_eq_true_eq, drop_eq_iff]
  constructor
  · rintro ⟨n, hn, rfl⟩
    generalize S1024x4096.rowMajor.symm n = i at hn ⊢
    obtain ⟨c, k, rfl⟩ : ∃ (c : Fin 1024) (k : Fin 4096), i = ix2 c k := ⟨i 0, i 1, eq_ix2 i⟩
    obtain rfl : c = b := Fin.ext hn
    exact ⟨k, by rw [iota_apply]⟩
  · rintro ⟨k, rfl⟩
    exact ⟨S1024x4096.rowMajor (ix2 b k), by rw [Equiv.symm_apply_apply]; rfl,
      by rw [Equiv.symm_apply_apply, iota_apply]⟩

/-- The reference's reduction in each row is the left fold of its body over the row's pairs. -/
theorem argReduce_fold (d : FVec Ideal S1024x4096 .f32) (j : S1024.Idx) :
    Host.argReduce (reducer_argmin_f32_i32 (F := Ideal)) d (iotaInDim S1024x4096 32 1)
        (constant (F := Ideal) S_ .f32 0x7F800000#32) (constantI S_ 32 0#32) reducesTo_S1024x4096_S1024_d1 h_S_ j
      = (Host.argReduceFiber (α := EReal) d (iotaInDim S1024x4096 32 1) reducesTo_S1024x4096_S1024_d1 j).foldl
          (reducer_argmin_f32_i32 (F := Ideal))
          (constant (F := Ideal) S_ .f32 0x7F800000#32 (Shape.Idx.first h_S_), constantI S_ 32 0#32 (Shape.Idx.first h_S_)) :=
  (congrFun (Ideal.argReduce_eq_reduce2 _ _ _ _ _ _ _) j).trans (Host.reduce2_eq_foldl_fiber _ _ _ _ _ _ _ _)

/-- The reference's index in each row is that fold's. -/
theorem refArg_fold (d : FVec Ideal S1024x4096 .f32) :
    Reference.refArg (F := Ideal) d = fun j =>
      ((Host.argReduceFiber (α := EReal) d (iotaInDim S1024x4096 32 1) reducesTo_S1024x4096_S1024_d1 j).foldl
          (reducer_argmin_f32_i32 (F := Ideal))
          (constant (F := Ideal) S_ .f32 0x7F800000#32 (Shape.Idx.first h_S_), constantI S_ 32 0#32 (Shape.Idx.first h_S_))).2 :=
  Eq.trans (b := fun j => (Host.argReduce (reducer_argmin_f32_i32 (F := Ideal)) d (iotaInDim S1024x4096 32 1)
    (constant (F := Ideal) S_ .f32 0x7F800000#32) (constantI S_ 32 0#32) reducesTo_S1024x4096_S1024_d1 h_S_ j).2)
    rfl (funext fun j => congrArg Prod.snd (argReduce_fold d j))

/-- The reference's index in row `b` is the first at which the row is least, when every entry is below ⊤. -/
theorem refArg_apply (d : FVec Ideal S1024x4096 .f32) (b : Fin 1024) (hd : ∀ k : Fin 4096, d (ix2 b k) < ⊤) {n : ℕ}
    (hn : FirstMin (row fun k => d (ix2 b k)) 4096 n) :
    Reference.refArg (F := Ideal) d (ix1 b) = BitVec.ofNat 32 n :=
  (congrFun (refArg_fold d) (ix1 b)).trans (foldl_first (fun k => d (ix2 b k)) _ _ ofBits_inf (mem_fiber d b) hd hn)

end Cert.Bmu

end
-- ==== Proof.Finite.lean ====
/-
  The precondition: where the predicate `finite` holds, every entry of both arguments is a real number.
-/
module

public import Idealize.ShloMosaic.Lib.Pointwise
public import Idealize.ShloMosaic.Lib.ReduceAll
public import Idealize.ShloMosaic.Lib.StableHlo.Predicate
public import proofs.«01_k».proof.Proof.Gen.Pre_finite
public import proofs.«01_k».proof.Proof.Tiles

@[expose] public section

set_option maxRecDepth 16384

noncomputable section

namespace Cert.Bmu

open Cert.Pre_finite Cert.Pre_finite.Gen
open Idealize.ShloMosaic Idealize.ShloMosaic.TcCoe Idealize.SL.Sem

/-- An entry whose absolute value compares below ∞ is a real number. -/
theorem real_of_lt (v : Ideal .f32) (h : FloatOps.cmpf .olt (FloatOps.absf v) (⊤ : EReal) = 1#1) : v = (EReal.toReal v : EReal) := by
  rw [Ideal.cmpf_def, Ideal.absf_def] at h
  have h' : max v (-v) < (⊤ : EReal) := of_decide_eq_true ((StableHlo.Predicate.ofBool_eq_one_iff _).1 h)
  refine (EReal.coe_toReal ?_ ?_).symm
  · rintro rfl; simp at h'
  · rintro rfl; simp at h'

/-- Where the precondition holds, both arguments are arrays of reals. -/
theorem real_of_finite (x : FVec Ideal S1024x32 .f32) (w : FVec Ideal S64x64x32 .f32)
    (h : Cert.Pre_finite.fn (F := Ideal) x w = fun _ => 1#1) :
    (∀ i, x i = (EReal.toReal (x i) : EReal)) ∧ ∀ i, w i = (EReal.toReal (w i) : EReal) := by
  have h0 := congrFun h (fun i => nomatch i)
  unfold Cert.Pre_finite.fn at h0
  obtain ⟨hx, hw⟩ := IntOp.andi_eq_one.1 h0
  have hs : Subsingleton S_.Idx := ⟨fun a b => funext fun i => nomatch i⟩
  refine ⟨fun i => real_of_lt _ ?_, fun i => real_of_lt _ ?_⟩
  · rw [← ofBits_inf]
    exact Host.reduce_andi_all _ _ _ _ _ hx i
  · rw [← ofBits_inf]
    exact Host.reduce_andi_all _ _ _ _ _ hw i

end Cert.Bmu

end
-- ==== Proof.Equal.lean ====
/-
  The two programs' results are one array: in each row both name the first code nearest the input, the kernel by its scores
  and the reference by its distances, and both give that code's two grid coordinates.
-/
module

public import proofs.«01_k».proof.Proof.KernelValue
public import proofs.«01_k».proof.Proof.ArgMin
public import proofs.«01_k».proof.Proof.Finite

@[expose] public section

set_option maxRecDepth 16384

noncomputable section

namespace Cert.Bmu

open Idealize.ShloMosaic Idealize.ShloMosaic.TcCoe Idealize.SL.Sem
open Cert.KernelIdeal (S1024x32 S64x64x32 S1024x2 S1024x4096)
open Cert.KernelIdeal.Gen (k0_pay2)

/-- Over finite inputs the first least score of a row is at the first least distance. -/
theorem firstMin_dist {x : FVec Ideal S1024x32 .f32} {w : FVec Ideal S64x64x32 .f32} {X : S1024x32.Idx → ℝ}
    {W : S64x64x32.Idx → ℝ} (hx : ∀ i, x i = (X i : EReal)) (hw : ∀ i, w i = (W i : EReal)) (b : Fin 1024) {n : ℕ}
    (hn : FirstMin (rowOf (k0_pay2 (F := Ideal) x (codesT w)) b) 4096 n) :
    FirstMin (row fun k => Reference.refDist (F := Ideal) x w (ix2 b k)) 4096 n :=
  hn.congr fun i j hi hj => by
    unfold rowOf
    rw [row_of_lt _ hi, row_of_lt _ hj, row_of_lt _ hi, row_of_lt _ hj]
    exact score_le_iff hx hw b ⟨i, hi⟩ ⟨j, hj⟩

/-- Over finite inputs the kernel's array is the reference's. -/
theorem kOut_eq_refOut {x : FVec Ideal S1024x32 .f32} {w : FVec Ideal S64x64x32 .f32} {X : S1024x32.Idx → ℝ}
    {W : S64x64x32.Idx → ℝ} (hx : ∀ i, x i = (X i : EReal)) (hw : ∀ i, w i = (W i : EReal)) :
    kOut x (codesT w) = Reference.refOut (F := Ideal) x w := by
  funext i
  obtain ⟨b, u, rfl⟩ : ∃ (b : Fin 1024) (u : Fin 2), i = ix2 b u := ⟨i 0, i 1, eq_ix2 i⟩
  obtain ⟨n, hn⟩ := FirstMin.exists (rowOf (k0_pay2 (F := Ideal) x (codesT w)) b) 4095
  have hk := index_apply x (codesT w) b 0 hn
  have hr := refArg_apply (Reference.refDist (F := Ideal) x w) b
    (fun k => by rw [dist_apply hx hw]; exact EReal.coe_lt_top _) (firstMin_dist hx hw b hn)
  unfold kOut Reference.refOut
  match u with
  | 0 => rw [refPair_zero, refDiv_apply _ b hn.1 hr]; exact kPair_zero _ _ _ b hn.1 hk
  | 1 => rw [refPair_one, refRem_apply _ b hn.1 hr]; exact kPair_one _ _ _ b hn.1 hk

end Cert.Bmu

end
-- ==== Proof.lean ====
module

public import proofs.«01_k».proof.Defs
public import proofs.«01_k».proof.Proof.Gen.Kernel
public import proofs.«01_k».proof.Proof.Gen.KernelIdeal.Value
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The kernel as printed runs to the end from any memory, its arguments unchanged and every counter zero. -/
theorem frame_kernel : quiescent_Kernel := fun m ρ _ => Cert.Kernel.Gen.frame m ρ

/-- So does its idealization. -/
theorem frame_kernelIdeal : quiescent_KernelIdeal := fun m ρ _ => Cert.KernelIdeal.Gen.frame m ρ

/-- So does the reference. -/
theorem frame_reference : quiescent_ReferenceIdeal := fun m ρ _ =>
  (θ_run _ _ _).mono (fun _ h => ⟨fun c => (h.1 c).2, h.2⟩) (Cert.Bmu.Reference.run_main m ρ)

/-- From finite arguments the kernel and the reference end with one result. -/
theorem same_result : algebraic_KernelIdeal_ReferenceIdeal_pre_finite := fun m ρ m' ρ' hp ha => by
  refine ⟨fun c => Cert.Bmu.kFinal m c, Cert.Bmu.run_kernel m ρ, ?_⟩
  refine (θ_run _ _ _).mono (fun _ h c => ⟨((h.1 c).1).trans ?_, (h.1 c).2⟩) (Cert.Bmu.Reference.run_main m' ρ')
  obtain ⟨hx, hw⟩ := Cert.Bmu.real_of_finite _ _ (hp c)
  have e := Cert.Bmu.kOut_eq_refOut hx hw
  rw [(ha c).1, (ha c).2]
  exact e.symm

/-- Every claim of the certificate. -/
theorem claim : Cert.Claim :=
  ⟨Cert.Kernel.Gen.facts, Cert.KernelIdeal.Gen.facts, Cert.ReferenceIdeal.Gen.facts, Cert.Pre_finite.Gen.facts,
    frame_kernel, frame_kernelIdeal, fun m ρ _ => frame_kernelIdeal m ρ trivial, frame_reference,
    fun m ρ _ => frame_reference m ρ trivial, trivial, same_result⟩

end Cert.Proof

end
